-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S262144x256 : Shape := ⟨2, ![262144, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x256 .f32) (main_arg1 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 256#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x256 : Shape := ⟨2, ![262144, 256]⟩
abbrev S262144 : Shape := ⟨1, ![262144]⟩
abbrev S16x8x2048x256 : Shape := ⟨4, ![16, 8, 2048, 256]⟩
abbrev S16x8x2048 : Shape := ⟨3, ![16, 8, 2048]⟩
abbrev S1x1 : Shape := ⟨2, ![1, 1]⟩
abbrev S1x8x2048x256 : Shape := ⟨4, ![1, 8, 2048, 256]⟩
abbrev S1x8x2048 : Shape := ⟨3, ![1, 8, 2048]⟩
abbrev S8x256 : Shape := ⟨2, ![8, 256]⟩
abbrev S8x2048x256 : Shape := ⟨3, ![8, 2048, 256]⟩
abbrev S8x2048 : Shape := ⟨2, ![8, 2048]⟩
abbrev S8x2048x1 : Shape := ⟨3, ![8, 2048, 1]⟩
abbrev S1x16x8x2048 : Shape := ⟨4, ![1, 16, 8, 2048]⟩
abbrev S1 : Shape := ⟨1, ![1]⟩
abbrev S1x1x1x1 : Shape := ⟨4, ![1, 1, 1, 1]⟩
abbrev S1x8x256 : Shape := ⟨3, ![1, 8, 256]⟩
abbrev S1x1x1 : Shape := ⟨3, ![1, 1, 1]⟩
abbrev S_ : Shape := ⟨0, ![]⟩

abbrev nBuf : Space → Nat
  | .hbm => 8
  | .vmem => 6
  | .smem => 1
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S16x8x2048x256, .f32⟩
  | .hbm, ⟨3, _⟩ => ⟨S16x8x2048, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x8x2048x256, .f32⟩
  | .local _ .vmem, ⟨1, _⟩ => ⟨S1x8x2048x256, .f32⟩
  | .local _ .vmem, ⟨2, _⟩ => ⟨S1x8x2048, .i32⟩
  | .local _ .vmem, ⟨3, _⟩ => ⟨S1x8x2048, .i32⟩
  | .local _ .vmem, ⟨4, _⟩ => ⟨S16x8x2048, .f32⟩
  | .local _ .vmem, ⟨5, _⟩ => ⟨S8x256, .f32⟩
  | .local _ .smem, ⟨0, _⟩ => ⟨S1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let v9 : Index := Scalar.indexCast arg0
  let c0_7 : Index := 0#32
  let c0_8 : Index := 0#32
  ![v9.toNat, 0, 0]
def k0_cond2 (i : grid0.Coords) : BitVec 1 :=
  let arg0 : BitVec 32 := BitVec.ofNat 32 (i 0).val
  let c15_i32 : BitVec 32 := 15#32
  let v25 : BitVec 1 := Scalar.cmpi .eq arg0 c15_i32
  let v26 : BitVec 32 := Scalar.extui v25
  let c0_i32_15 : BitVec 32 := 0#32
  let v27 : BitVec 1 := Scalar.cmpi .ne v26 c0_i32_15
  v27

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S262144x256 : Shape := ⟨2, ![262144, 256]⟩
abbrev S262144 : Shape := ⟨1, ![262144]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S262144, .f32⟩
  | .hbm, ⟨6, _⟩ => ⟨S262144, .f32⟩
  | .hbm, ⟨7, _⟩ => ⟨S262144x1, .f32⟩
  | .hbm, ⟨8, _⟩ => ⟨S262144x256, .f32⟩
  | .hbm, ⟨9, _⟩ => ⟨S262144x256, .f32⟩
  | .hbm, ⟨10, _⟩ => ⟨S262144x256, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S262144x1, .f32⟩
  | .hbm, ⟨15, _⟩ => ⟨S262144x256, .f32⟩
  | .hbm, ⟨16, _⟩ => ⟨S262144x256, .f32⟩
  | .hbm, ⟨17, _⟩ => ⟨S262144x1, .i32⟩
  | .hbm, ⟨18, _⟩ => ⟨S_, .i32⟩
  | .hbm, ⟨19, _⟩ => ⟨S262144x1, .i32⟩
  | .hbm, ⟨20, _⟩ => ⟨S262144x1, .i1⟩
  | .hbm, ⟨21, _⟩ => ⟨S_, .i32⟩
  | .hbm, ⟨22, _⟩ => ⟨S262144x1, .i32⟩
  | .hbm, ⟨23, _⟩ => ⟨S262144x1, .i32⟩
  | .hbm, ⟨24, _⟩ => ⟨S262144x1, .i32⟩
  | .hbm, ⟨25, _⟩ => ⟨S262144x1x1, .i32⟩
  | .hbm, ⟨26, _⟩ => ⟨S1, .i32⟩
  | .hbm, ⟨27, _⟩ => ⟨S_, .i32⟩
  | .hbm, ⟨28, _⟩ => ⟨S262144x1x1, .i32⟩
  | .hbm, ⟨29, _⟩ => ⟨S262144x1x1, .i1⟩
  | .hbm, ⟨30, _⟩ => ⟨S1x1x1, .i32⟩
  | .hbm, ⟨31, _⟩ => ⟨S262144x1x1, .i32⟩
  | .hbm, ⟨32, _⟩ => ⟨S262144x1x1, .i1⟩
  | .hbm, ⟨33, _⟩ => ⟨S262144x1x1, .i1⟩
  | .hbm, ⟨34, _⟩ => ⟨S_, .i1⟩
  | .hbm, ⟨35, _⟩ => ⟨S262144x1, .i1⟩
  | .hbm, ⟨36, _⟩ => ⟨S262144x1, .f32⟩
  | .hbm, ⟨37, _⟩ => ⟨S_, .f32⟩
  | .hbm, ⟨38, _⟩ => ⟨S262144x1, .f32⟩
  | .hbm, ⟨39, _⟩ => ⟨S262144x1, .f32⟩
  | .hbm, ⟨40, _⟩ => ⟨S262144, .f32⟩
  | .hbm, ⟨41, _⟩ => ⟨S262144, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩

abbrev nD : Nat := 1
abbrev τ : Topo := Topo.v7x

variable {F : FTy → Type} [FloatOps F]
-- ==== Proof.SameText.lean ====
/- The kernel as printed and the kernel read over the extended reals are the same program text, so a run of the one,
   stated over any float values, is a run of the other. -/
module

public import proofs.«01_k».proof.Proof.Gen.Kernel
public import proofs.«01_k».proof.Proof.Gen.KernelIdeal

@[expose] public section

noncomputable section

namespace Cert.SameText

open Idealize.ShloMosaic

variable {F : FTy → Type} [FloatOps F]

set_option maxHeartbeats 1600000 in
/-- The TensorCore's body tables agree at every label and argument. -/
theorem row (ℓ : Cert.Kernel.Λ₀.Label) (a : Cert.Kernel.Λ₀.Args ℓ) :
    Cert.Kernel.defs₀ (F := F) .tc ℓ a = Cert.KernelIdeal.defs₀ (F := F) .tc ℓ a := by
  match ℓ, a with
  | 0, (t, s) => rfl

/-- The kernels' body tables agree. -/
theorem defs₀_eq : Cert.Kernel.defs₀ (F := F) = Cert.KernelIdeal.defs₀ (F := F) := by
  funext κ ℓ a
  cases κ with
  | tc => exact row ℓ a
  | scScalar _ => rfl
  | scVector _ _ => rfl

set_option maxHeartbeats 1600000 in
/-- The whole body tables agree. -/
theorem defs_eq : Cert.Kernel.defs (F := F) = Cert.KernelIdeal.defs (F := F) :=
  congrArg (Pipeline.defs (Cert.Kernel.pcfgs (F := F))) defs₀_eq

end Cert.SameText

end
-- ==== Proof.Loss.lean ====
/- The loss of one row over the real numbers, and the extended-real operations at real operands. -/
module

public import Idealize.ShloMosaic.PureOps.Ideal
public import Idealize.ShloMosaic.PureOps.Ideal.Laws

@[expose] public section

noncomputable section

namespace Cert.Loss

open Idealize.ShloMosaic

/-- The logarithm of the sum of the exponentials of a row of 256 logits. -/
def logSumExp (x : Fin 256 → ℝ) : ℝ := Real.log (∑ k, Real.exp (x k))

/-- The negative log-likelihood of class `t` under the softmax of the row `x`. -/
def nll (x : Fin 256 → ℝ) (t : Fin 256) : ℝ := logSumExp x - x t

theorem sum_exp_pos (x : Fin 256 → ℝ) : 0 < ∑ k, Real.exp (x k) :=
  Finset.sum_pos (fun k _ => Real.exp_pos _) ⟨0, Finset.mem_univ _⟩

/-- The exponential at a real is the real exponential. -/
theorem exp_real (r : ℝ) : Ideal.exp (r : EReal) = ((Real.exp r : ℝ) : EReal) := rfl

/-- The logarithm at a positive real is the real logarithm. -/
theorem log_real {r : ℝ} (h : 0 < r) : Ideal.log (r : EReal) = ((Real.log r : ℝ) : EReal) := by
  show (if r ≤ 0 then (⊥ : EReal) else (Real.log r : EReal)) = _
  rw [if_neg (not_le.mpr h)]

/-- A finite sum of reals taken in the extended reals is the real sum. -/
theorem sum_real {ι : Type} [Fintype ι] (f : ι → ℝ) : ∑ i, ((f i : ℝ) : EReal) = ((∑ i, f i : ℝ) : EReal) :=
  (map_sum (⟨⟨fun r : ℝ => (r : EReal), EReal.coe_zero⟩, EReal.coe_add⟩ : ℝ →+ EReal) f Finset.univ).symm

/-- Subtracting one number from every logit lowers the logarithm of the sum of exponentials by that number. -/
theorem logSumExp_sub (x : Fin 256 → ℝ) (M : ℝ) : Real.log (∑ k, Real.exp (x k - M)) = logSumExp x - M := by
  have h : ∑ k, Real.exp (x k - M) = (∑ k, Real.exp (x k)) * Real.exp (-M) := by
    rw [Finset.sum_mul]
    exact Finset.sum_congr rfl fun k _ => by rw [← Real.exp_add, sub_eq_add_neg]
  unfold logSumExp
  rw [h, Real.log_mul (sum_exp_pos x).ne' (Real.exp_pos _).ne', Real.log_exp]
  ring

/-- The maximum of finitely many reals, started from minus infinity, is a real. -/
theorem fold_max_real {n : ℕ} (f : Fin (n + 1) → ℝ) :
    ∃ M : ℝ, Finset.univ.fold max (⊥ : EReal) (fun k => ((f k : ℝ) : EReal)) = (M : EReal) := by
  have ht : Finset.univ.fold max (⊥ : EReal) (fun k => ((f k : ℝ) : EReal)) < ⊤ :=
    (Finset.fold_max_lt _).mpr ⟨bot_lt_top, fun k _ => EReal.coe_lt_top _⟩
  have hb : (⊥ : EReal) < Finset.univ.fold max (⊥ : EReal) (fun k => ((f k : ℝ) : EReal)) :=
    (Finset.lt_fold_max _).mpr (.inr ⟨0, Finset.mem_univ _, EReal.bot_lt_coe _⟩)
  exact ⟨_, (EReal.coe_toReal ht.ne hb.ne').symm⟩

end Cert.Loss

end
-- ==== Proof.Payloads.lean ====
/- The values one grid point computes, read at an index over the extended reals. -/
module

public import proofs.«01_k».proof.Proof.Loss
public import proofs.«01_k».proof.Proof.Gen.KernelIdeal.Skeleton
public import Idealize.ShloMosaic.Lib.Affine
public import Idealize.ShloMosaic.Lib.ValueIdx
public import Idealize.ShloMosaic.Lib.Pipeline.Value

@[expose] public section

set_option maxRecDepth 16384

noncomputable section

namespace Cert.KernelIdeal.Hand

open Idealize.ShloMosaic Idealize.ShloMosaic.ValueIdx
open Cert.KernelIdeal.Gen

/-- A block of logits with its leading unit axis dropped. -/
theorem pay2_apply (v : Vec Ideal S1x8x2048x256 .f32) (a : Fin 8) (b : Fin 2048) (k : Fin 256) :
    k0_pay2 v (ix3 a b k) = v (ix4 0 a b k) := by
  refine shapeCast_apply v shapeCasts_S1x8x2048x256_S8x2048x256 (ix3 a b k) (ix4 0 a b k) ?_
  rw [Shape.rowMajor_val_four, Shape.rowMajor_val_three]
  show (((0 * 8 + a.val) * 2048 + b.val) * 256 + k.val) = (a.val * 2048 + b.val) * 256 + k.val
  omega

/-- A sum along the classes. -/
theorem sumClasses (x : FVec Ideal S8x2048x256 .f32) (a : Fin 8) (b : Fin 2048) :
    (multiReduction .add [2] S8x2048 x 0x00000000#32 reduces_S8x2048x256_S8x2048 (.inl rfl) rfl : FVec Ideal S8x2048 .f32) (ix2 a b)
      = ∑ k : Fin 256, (x (ix3 a b k) : EReal) := by
  refine (Ideal.multiReduction_add_single x 0x00000000#32 reduces_S8x2048x256_S8x2048 (.inl rfl) rfl (ix2 a b)).trans
    (Finset.sum_congr rfl fun k _ => congrArg x (funext fun d => ?_))
  match d with
  | ⟨0, _⟩ => rfl
  | ⟨1, _⟩ => rfl
  | ⟨2, _⟩ => rfl

/-- A sum along the rows of a block's second axis. -/
theorem sumRows (x : FVec Ideal S8x2048x256 .f32) (a : Fin 8) (k : Fin 256) :
    (multiReduction .add [1] S8x256 x 0x00000000#32 reduces_S8x2048x256_S8x256 (.inl rfl) rfl : FVec Ideal S8x256 .f32) (ix2 a k)
      = ∑ b : Fin 2048, (x (ix3 a b k) : EReal) := by
  refine (Ideal.multiReduction_add_single x 0x00000000#32 reduces_S8x2048x256_S8x256 (.inl rfl) rfl (ix2 a k)).trans
    (Finset.sum_congr rfl fun b _ => congrArg x (funext fun d => ?_))
  match d with
  | ⟨0, _⟩ => rfl
  | ⟨1, _⟩ => rfl
  | ⟨2, _⟩ => rfl

/-- One row's sum of exponentials. -/
theorem pay3_apply (v : Vec Ideal S1x8x2048x256 .f32) (a : Fin 8) (b : Fin 2048) :
    k0_pay3 v (ix3 0 a b) = ∑ k : Fin 256, Ideal.exp (v (ix4 0 a b k)) := by
  unfold k0_pay3
  dsimp only
  refine (shapeCast_apply _ shapeCasts_S8x2048_S1x8x2048 (ix3 0 a b) (ix2 a b) ?_).trans ((sumClasses _ a b).trans ?_)
  · rw [Shape.rowMajor_val_two, Shape.rowMajor_val_three]
    show a.val * 2048 + b.val = (0 * 8 + a.val) * 2048 + b.val
    omega
  · exact Finset.sum_congr rfl fun k _ => congrArg Ideal.exp (pay2_apply v a b k)

/-- The targets of a block, repeated along the classes. -/
theorem targets_apply (w : Vec Ideal S1x8x2048 .i32) (a : Fin 8) (b : Fin 2048) (k : Fin 256) :
    broadcastTo S8x2048x256 (shapeCast S8x2048x1 (shapeCast S8x2048 w shapeCasts_S1x8x2048_S8x2048) shapeCasts_S8x2048_S8x2048x1)
      broadcasts_S8x2048x1_S8x2048x256 (ix3 a b k) = w (ix3 0 a b) := by
  refine (broadcastTo_apply _ _ (ix3 a b k) (ix3 a b (0 : Fin 1)) (fun d => match d with
    | ⟨0, _⟩ => rfl
    | ⟨1, _⟩ => rfl
    | ⟨2, _⟩ => rfl)).trans ?_
  refine (shapeCast_apply _ _ (ix3 a b (0 : Fin 1)) (ix2 a b) (by
    rw [Shape.rowMajor_val_two, Shape.rowMajor_val_three]
    show a.val * 2048 + b.val = (a.val * 2048 + b.val) * 1 + 0
    omega)).trans ?_
  exact shapeCast_apply w _ (ix2 a b) (ix3 0 a b) (by
    rw [Shape.rowMajor_val_two, Shape.rowMajor_val_three]
    show (0 * 8 + a.val) * 2048 + b.val = a.val * 2048 + b.val
    omega)

/-- The selected entries of one column of a block, added to what the accumulator held. -/
theorem pay4_apply (v : Vec Ideal S1x8x2048x256 .f32) (w : Vec Ideal S1x8x2048 .i32) (s : Vec Ideal S8x256 .f32) (a : Fin 8) (k : Fin 256) :
    k0_pay4 v w s (ix2 a k)
      = s (ix2 a k) + ∑ b : Fin 2048, if BitVec.ofNat 32 k.val = w (ix3 0 a b) then v (ix4 0 a b k) else (0 : EReal) := by
  unfold k0_pay4
  dsimp only
  refine (shapeCast_apply _ _ (ix2 a k) (ix2 a k) rfl).trans ?_
  refine (congrArg (s (ix2 a k) + ·) (sumRows _ a k)).trans (congrArg (s (ix2 a k) + ·) (Finset.sum_congr rfl fun b _ => ?_))
  rw [select_apply, pay2_apply]
  have he : cmpi .eq (iota .tc S8x2048x256 32 [2] iota_S8x2048x256_d2_w32)
      (broadcastTo S8x2048x256 (shapeCast S8x2048x1 (shapeCast S8x2048 w shapeCasts_S1x8x2048_S8x2048) shapeCasts_S8x2048_S8x2048x1)
        broadcasts_S8x2048x1_S8x2048x256) (ix3 a b k) = IntOp.cmpi .eq (BitVec.ofNat 32 k.val) (w (ix3 0 a b)) := by
    show IntOp.cmpi .eq (iota .tc S8x2048x256 32 [2] iota_S8x2048x256_d2_w32 (ix3 a b k)) _ = _
    rw [iota_single_apply, targets_apply]
  rw [he]
  by_cases h : BitVec.ofNat 32 k.val = w (ix3 0 a b)
  · rw [if_pos h, IntOp.cmpi_eq.mpr h, select_one]
  · rw [if_neg h, eq_zero_of_ne_one (fun e => h (IntOp.cmpi_eq.mp e)), select_zero]
    exact Ideal.ofBits_zero_f32

/-- The empty accumulator. -/
theorem pay1_apply (i : S8x256.Idx) : k0_pay1 (F := Ideal) i = (0 : EReal) := by
  show Ideal.ofBits .f32 0x00000000#32 = 0
  exact Ideal.ofBits_zero_f32

/-- The last point's value: the sum of the logarithms less the sum of the accumulator. -/
theorem pay5_apply (u : Vec Ideal S16x8x2048 .f32) (s : Vec Ideal S8x256 .f32) :
    k0_pay5 u s = (∑ y : S16x8x2048.Idx, Ideal.log (u y)) - ∑ z : S8x256.Idx, s z := by
  unfold k0_pay5
  dsimp only
  have h1 : (multiReduction .add [1, 2, 3] S1 (shapeCast S1x16x8x2048 (log u) shapeCasts_S16x8x2048_S1x16x8x2048) 0x00000000#32
      reduces_S1x16x8x2048_S1 (.inl rfl) rfl : FVec Ideal S1 .f32) = fun _ => (∑ y : S16x8x2048.Idx, Ideal.log (u y) : EReal) := by
    funext j
    refine (Ideal.multiReduction_add_total _ _ reduces_S1x16x8x2048_S1 (fun b => by fin_cases b; rfl) _ _ j).trans ?_
    exact Equiv.sum_comp (Shape.reshapeEquiv shapeCasts_S16x8x2048_S1x16x8x2048) fun y => Ideal.log (u y)
  have h2 : (multiReduction .add [1, 2] S1 (shapeCast S1x8x256 s shapeCasts_S8x256_S1x8x256) 0x00000000#32
      reduces_S1x8x256_S1 (.inl rfl) rfl : FVec Ideal S1 .f32) = fun _ => (∑ z : S8x256.Idx, s z : EReal) := by
    funext j
    refine (Ideal.multiReduction_add_total _ _ reduces_S1x8x256_S1 (fun b => by fin_cases b; rfl) _ _ j).trans ?_
    exact Equiv.sum_comp (Shape.reshapeEquiv shapeCasts_S8x256_S1x8x256) fun z => s z
  rw [h1, h2]
  rfl

end Cert.KernelIdeal.Hand

end
-- ==== Proof.Body.lean ====
/- What the kernel body does at one grid point, on any staging memrefs: the exponentials' row sums of the block go into
   one slice of the first scratch, the selected entries of the block are added onto the second scratch, and the last
   point stores the difference of the two totals. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The body's first branch is taken: the point is the first one. -/
abbrev isFirst (i : grid0.Coords) : Prop :=
  (Scalar.cmpi .ne (Scalar.extui (Scalar.cmpi .eq (BitVec.ofNat 32 (i 0).val) 0#32)) 0#32) = 1#1

/-- The body's second branch is taken: the point is the last one. -/
abbrev isLast (i : grid0.Coords) : Prop := k0_cond2 i = 1#1

/-- The first branch is taken at point 0 only. -/
theorem isFirst_iff (t : Fin grid0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  simp only [isFirst, e0]
  word_cmp

/-- The second branch is taken at point 15 only. -/
theorem isLast_iff (t : Fin grid0.N) : isLast (grid0.coords t) ↔ t.val = 15 := by
  have ht : t.val < 16 := Nat.lt_of_lt_of_eq t.isLt N_0
  have e0 : (grid0.coords t 0).val = t.val / 1 % 16 := Pipeline.Grid.coords_val t 0 (by decide) rfl
  simp only [isLast, k0_cond2, e0]
  word_cmp

/-- The row sums' scratch with slice `k` replaced by `p`. -/
def setSlice (s : Vec F S16x8x2048 .f32) (k : ℕ) (p : Vec F S1x8x2048 .f32) : Vec F S16x8x2048 .f32 :=
  VecWindow.put s ![k, 0, 0] S1x8x2048.size p

/-- The first point: the block's row sums go into their slice, and the second scratch, whatever it held, ends at the block's selected entries added onto zero. -/
theorem runFirst (c : Dev nD) (i : grid0.Coords) (arg1 : Memref sig .tc .vmem S1x8x2048x256 .f32) (harg1 : arg1.IsWhole)
    (arg2 : Memref sig .tc .vmem S1x8x2048 .i32) (harg2 : arg2.IsWhole) (arg3 : Memref sig .tc .smem S1x1 .f32) (harg3 : arg3.IsWhole)
    (arg4 : Memref sig .tc .vmem S16x8x2048 .f32) (harg4 : arg4.IsWhole) (arg5 : Memref sig .tc .vmem S8x256 .f32) (harg5 : arg5.IsWhole)
    (hf : isFirst i) (hl : ¬isLast i)
    (x : Vec F S1x8x2048x256 .f32) (tg : Vec F S1x8x2048 .i32) (s : Vec F S16x8x2048 .f32)
    (E : Set ℕ) (K : PUnit → sProp 𝕄) :
    iprop(owns (c : Thread nD τ) arg1 fullShare x ∗ owns (c : Thread nD τ) arg2 fullShare tg
        ∗ owns (c : Thread nD τ) arg4 fullShare s ∗ (∃ d, owns (c : Thread nD τ) arg5 fullShare d)
        ∗ (iprop(owns (c : Thread nD τ) arg1 fullShare x ∗ owns (c : Thread nD τ) arg2 fullShare tg
            ∗ owns (c : Thread nD τ) arg4 fullShare (setSlice s (i 0).val (k0_pay3 x))
            ∗ owns (c : Thread nD τ) arg5 fullShare (k0_pay4 x tg k0_pay1)) -∗ K ⟨⟩))
      ⊢ wp frame (wpE (defs₀ (F := F)) Variants.none c none) E (cc0__loss_body i arg1 harg1 arg2 harg2 arg3 harg3 arg4 harg4 arg5 harg5) K := by
  simp only [cc0__loss_body_eq_skeleton]; unfold cc0__loss_body_skel
  unfold owns
  iintro ⟨⟨%f0, %hf0, H0⟩, ⟨%f1, %hf1, H1⟩, ⟨%fs0, %hfs0, HS0⟩, ⟨%d5, %fs1, -, HS1⟩, Hk⟩
  obtain rfl := harg1.eq_unread hf0; obtain rfl := harg2.eq_unread hf1; obtain rfl := harg4.eq_unread hfs0
  have e1 : ∀ inb, View.readAt (Elt F) arg1.view (Rect.unit ![0, 0, 0, 0] S1x8x2048x256.size inb).toLoadRect (harg1.unread x) = x :=
    fun inb => (View.readAt_full _ _ _).trans (harg1.read_unread _)
  have e2 : ∀ inb, View.readAt (Elt F) arg2.view (Rect.unit ![0, 0, 0] S1x8x2048.size inb).toLoadRect (harg2.unread tg) = tg :=
    fun inb => (View.readAt_full _ _ _).trans (harg2.read_unread _)
  have e4 : ∀ inb, View.read (Elt F) arg4.view (arg4.view.writes (Elt F) (harg4.unread s)
      [⟨Rect.unit (k0_off1 i) S1x8x2048.size inb, k0_pay3 x⟩]) = setSlice s (i 0).val (k0_pay3 x) := fun inb => by
    rw [View.read_writes_cons_put arg4.view _ inb _ [] (k0_off1_eq i), View.writes_nil, harg4.read_unread]; rfl
  sl_exec (disch := first | sl_exact hf | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr; swap; · iexact HS0
    ipureintro; exact e4 _
  iexists _; isplitr; swap; · iexact HS1
  ipureintro
  rw [View.read_writes_full]
  unfold runFirst.sl.v19 runFirst.sl.HS1_1
  rw [View.readCov_full]

/-- A point between: the block's row sums go into their slice, and the block's selected entries are added onto the second scratch. -/
theorem runMiddle (c : Dev nD) (i : grid0.Coords) (arg1 : Memref sig .tc .vmem S1x8x2048x256 .f32) (harg1 : arg1.IsWhole)
    (arg2 : Memref sig .tc .vmem S1x8x2048 .i32) (harg2 : arg2.IsWhole) (arg3 : Memref sig .tc .smem S1x1 .f32) (harg3 : arg3.IsWhole)
    (arg4 : Memref sig .tc .vmem S16x8x2048 .f32) (harg4 : arg4.IsWhole) (arg5 : Memref sig .tc .vmem S8x256 .f32) (harg5 : arg5.IsWhole)
    (hf : ¬isFirst i) (hl : ¬isLast i)
    (x : Vec F S1x8x2048x256 .f32) (tg : Vec F S1x8x2048 .i32) (s : Vec F S16x8x2048 .f32) (a : Vec F S8x256 .f32)
    (E : Set ℕ) (K : PUnit → sProp 𝕄) :
    iprop(owns (c : Thread nD τ) arg1 fullShare x ∗ owns (c : Thread nD τ) arg2 fullShare tg
        ∗ owns (c : Thread nD τ) arg4 fullShare s ∗ owns (c : Thread nD τ) arg5 fullShare a
        ∗ (iprop(owns (c : Thread nD τ) arg1 fullShare x ∗ owns (c : Thread nD τ) arg2 fullShare tg
            ∗ owns (c : Thread nD τ) arg4 fullShare (setSlice s (i 0).val (k0_pay3 x))
            ∗ owns (c : Thread nD τ) arg5 fullShare (k0_pay4 x tg a)) -∗ K ⟨⟩))
      ⊢ wp frame (wpE (defs₀ (F := F)) Variants.none c none) E (cc0__loss_body i arg1 harg1 arg2 harg2 arg3 harg3 arg4 harg4 arg5 harg5) K := by
  simp only [cc0__loss_body_eq_skeleton]; unfold cc0__loss_body_skel
  unfold owns
  iintro ⟨⟨%f0, %hf0, H0⟩, ⟨%f1, %hf1, H1⟩, ⟨%fs0, %hfs0, HS0⟩, ⟨%fs1, %hfs1, HS1⟩, Hk⟩
  obtain rfl := harg1.eq_unread hf0; obtain rfl := harg2.eq_unread hf1; obtain rfl := harg4.eq_unread hfs0; obtain rfl := harg5.eq_unread hfs1
  have e1 : ∀ inb, View.readAt (Elt F) arg1.view (Rect.unit ![0, 0, 0, 0] S1x8x2048x256.size inb).toLoadRect (harg1.unread x) = x :=
    fun inb => (View.readAt_full _ _ _).trans (harg1.read_unread _)
  have e2 : ∀ inb, View.readAt (Elt F) arg2.view (Rect.unit ![0, 0, 0] S1x8x2048.size inb).toLoadRect (harg2.unread tg) = tg :=
    fun inb => (View.readAt_full _ _ _).trans (harg2.read_unread _)
  have e4 : ∀ inb, View.read (Elt F) arg4.view (arg4.view.writes (Elt F) (harg4.unread s)
      [⟨Rect.unit (k0_off1 i) S1x8x2048.size inb, k0_pay3 x⟩]) = setSlice s (i 0).val (k0_pay3 x) := fun inb => by
    rw [View.read_writes_cons_put arg4.view _ inb _ [] (k0_off1_eq i), View.writes_nil, harg4.read_unread]; rfl
  have e5 : ∀ inb, View.readAt (Elt F) arg5.view (Rect.unit ![0, 0] S8x256.size inb).toLoadRect (harg5.unread a) = a :=
    fun inb => (View.readAt_full _ _ _).trans (harg5.read_unread _)
  sl_exec (disch := first | sl_exact hf | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr; swap; · iexact HS0
    ipureintro; exact e4 _
  iexists _; isplitr; swap; · iexact HS1
  ipureintro
  exact View.read_writes_full _ _ _ _ _

/-- The last point: as between, and the output holds the difference of the two totals, read off the scratches as they now stand. -/
theorem runLast (c : Dev nD) (i : grid0.Coords) (arg1 : Memref sig .tc .vmem S1x8x2048x256 .f32) (harg1 : arg1.IsWhole)
    (arg2 : Memref sig .tc .vmem S1x8x2048 .i32) (harg2 : arg2.IsWhole) (arg3 : Memref sig .tc .smem S1x1 .f32) (harg3 : arg3.IsWhole)
    (arg4 : Memref sig .tc .vmem S16x8x2048 .f32) (harg4 : arg4.IsWhole) (arg5 : Memref sig .tc .vmem S8x256 .f32) (harg5 : arg5.IsWhole)
    (hf : ¬isFirst i) (hl : isLast i)
    (x : Vec F S1x8x2048x256 .f32) (tg : Vec F S1x8x2048 .i32) (s : Vec F S16x8x2048 .f32) (a : Vec F S8x256 .f32)
    (E : Set ℕ) (K : PUnit → sProp 𝕄) :
    iprop(owns (c : Thread nD τ) arg1 fullShare x ∗ owns (c : Thread nD τ) arg2 fullShare tg ∗ (∃ d, owns (c : Thread nD τ) arg3 fullShare d)
        ∗ owns (c : Thread nD τ) arg4 fullShare s ∗ owns (c : Thread nD τ) arg5 fullShare a
        ∗ (iprop(owns (c : Thread nD τ) arg1 fullShare x ∗ owns (c : Thread nD τ) arg2 fullShare tg ∗
            owns (c : Thread nD τ) arg3 fullShare (fun _ => k0_pay5 (setSlice s (i 0).val (k0_pay3 x)) (k0_pay4 x tg a))
            ∗ owns (c : Thread nD τ) arg4 fullShare (setSlice s (i 0).val (k0_pay3 x))
            ∗ owns (c : Thread nD τ) arg5 fullShare (k0_pay4 x tg a)) -∗ K ⟨⟩))
      ⊢ wp frame (wpE (defs₀ (F := F)) Variants.none c none) E (cc0__loss_body i arg1 harg1 arg2 harg2 arg3 harg3 arg4 harg4 arg5 harg5) K := by
  simp only [cc0__loss_body_eq_skeleton]; unfold cc0__loss_body_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg1.eq_unread hf0; obtain rfl := harg2.eq_unread hf1; obtain rfl := harg4.eq_unread hfs0; obtain rfl := harg5.eq_unread hfs1
  have e1 : ∀ inb, View.readAt (Elt F) arg1.view (Rect.unit ![0, 0, 0, 0] S1x8x2048x256.size inb).toLoadRect (harg1.unread x) = x :=
    fun inb => (View.readAt_full _ _ _).trans (harg1.read_unread _)
  have e2 : ∀ inb, View.readAt (Elt F) arg2.view (Rect.unit ![0, 0, 0] S1x8x2048.size inb).toLoadRect (harg2.unread tg) = tg :=
    fun inb => (View.readAt_full _ _ _).trans (harg2.read_unread _)
  have e4 : ∀ inb, View.read (Elt F) arg4.view (arg4.view.writes (Elt F) (harg4.unread s)
      [⟨Rect.unit (k0_off1 i) S1x8x2048.size inb, k0_pay3 x⟩]) = setSlice s (i 0).val (k0_pay3 x) := fun inb => by
    rw [View.read_writes_cons_put arg4.view _ inb _ [] (k0_off1_eq i), View.writes_nil, harg4.read_unread]; rfl
  have e5 : ∀ inb, View.readAt (Elt F) arg5.view (Rect.unit ![0, 0] S8x256.size inb).toLoadRect (harg5.unread a) = a :=
    fun inb => (View.readAt_full _ _ _).trans (harg5.read_unread _)
  sl_exec (disch := first | sl_exact hf | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [View.read_writes_full]
    unfold runLast.sl.v28 runLast.sl.v34 runLast.sl.HS0_1 runLast.sl.HS1_1
    rw [View.readAt_full, e4, View.readCov_full]
    rfl
  isplitl [HS0]
  · iexists _; isplitr; swap; · iexact HS0
    ipureintro; unfold runLast.sl.HS0_1; exact e4 _
  iexists _; isplitr; swap; · iexact HS1
  ipureintro
  unfold runLast.sl.HS1_1
  exact View.read_writes_full _ _ _ _ _

end Cert.KernelIdeal.Hand

end
-- ==== Proof.Run.lean ====
/- The launch: what the two scratches hold before each grid point, the body's obligation, and what every run of the
   program leaves behind. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point a slice of the row sums' scratch is filled at. -/
def ptOf (y : S16x8x2048.Idx) : Fin cfg0.N := ⟨(y 0).val, lt_of_lt_of_eq (y 0).isLt (show S16x8x2048.size 0 = cfg0.N from N_0.symm)⟩

/-- The position of an entry of the row sums' scratch within its slice. -/
def inSlice (y : S16x8x2048.Idx) : S1x8x2048.Idx := fun a => match a with
  | 0 => ⟨0, Nat.one_pos⟩
  | 1 => y 1
  | 2 => y 2

/-- The row sums of the exponentials of all the blocks, slice by slice. -/
def allSums (c : Dev nD) : Vec F S16x8x2048 .f32 := fun y => k0_pay3 (iblk m c 0 (ptOf y)) (inSlice y)

/-- The selected entries of the first `n` blocks, added up in the order of the points. -/
def acc (c : Dev nD) : ℕ → Vec F S8x256 .f32
  | 0 => k0_pay1
  | n + 1 => if h : n < cfg0.N then k0_pay4 (iblk m c 0 ⟨n, h⟩) (iblk m c 1 ⟨n, h⟩) (acc c n) else acc c n

/-- The slices below `n` hold their blocks' row sums. -/
def Filled (c : Dev nD) (n : ℕ) (s : Vec F S16x8x2048 .f32) : Prop := ∀ y, (y 0).val < n → s y = allSums m c y

theorem setSlice_apply (s : Vec F S16x8x2048 .f32) (k : ℕ) (p : Vec F S1x8x2048 .f32) (y : S16x8x2048.Idx) :
    setSlice s k p y = if (y 0).val = k then p (inSlice y) else s y := by
  unfold setSlice VecWindow.put
  by_cases h : (y 0).val = k
  · have hall : ∀ a : Fin S16x8x2048.rank, (![k, 0, 0] : Fin 3 → ℕ) a ≤ (y a).val ∧ (y a).val < (![k, 0, 0] : Fin 3 → ℕ) a + S1x8x2048.size a := by
      intro a
      have := (y a).isLt
      fin_cases a
      · exact ⟨h.ge, h.le.trans_lt (Nat.lt_succ_self k)⟩
      · exact ⟨Nat.zero_le _, by simpa using this⟩
      · exact ⟨Nat.zero_le _, by simpa using this⟩
    rw [if_pos h, dif_pos hall]
    refine congrArg p (funext fun a => Fin.ext ?_)
    rw [Rect.unitLocal_val]
    fin_cases a
    · show (y 0).val - k = 0
      omega
    · rfl
    · rfl
  · rw [if_neg h, dif_neg]
    intro hall
    have h0 := hall 0
    have e : (![k, 0, 0] : Fin 3 → ℕ) 0 = k := rfl
    have e' : S1x8x2048.size 0 = 1 := rfl
    apply h
    have h1 : k ≤ (y 0).val := h0.1
    have h2 : (y 0).val < k + 1 := h0.2
    omega

/-- Filling the next slice. -/
theorem Filled.next {c : Dev nD} {s : Vec F S16x8x2048 .f32} (t : Fin cfg0.N) (h : Filled m c t.val s) :
    Filled m c (t.val + 1) (setSlice s t.val (k0_pay3 (iblk m c 0 t))) := by
  intro y hy
  rw [setSlice_apply]
  by_cases e : (y 0).val = t.val
  · rw [if_pos e]
    have : ptOf y = t := Fin.ext e
    unfold allSums
    rw [this]
  · rw [if_neg e]
    exact h y (by omega)

/-- With every slice filled the scratch is the whole array of row sums. -/
theorem Filled.all {c : Dev nD} {s : Vec F S16x8x2048 .f32} (h : Filled m c 16 s) : s = allSums m c :=
  funext fun y => h y (y 0).isLt

theorem acc_next (c : Dev nD) (t : Fin cfg0.N) :
    acc m c (t.val + 1) = k0_pay4 (iblk m c 0 t) (iblk m c 1 t) (acc m c t.val) :=
  dif_pos t.isLt

/-- The value the last point stores. -/
def total (c : Dev nD) : F .f32 := k0_pay5 (allSums m c) (acc m c 16)

/-- The row sums' scratch and the accumulator as whole memrefs. -/
abbrev scM0 : Memref sig .tc .vmem S16x8x2048 .f32 := Memref.whole cc0_scratch0
abbrev scM1 : Memref sig .tc .vmem S8x256 .f32 := Memref.whole cc0_scratch1

/-- Before any point, the scratches at anything. -/
theorem scratch_any (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- After `n` points, `n ≥ 1`: the slices below `n` filled, the accumulator at the sum over the first `n` blocks. -/
def after (c : Dev nD) (n : ℕ) : sProp 𝕄 :=
  iprop(iprop((∃ d, ⌜Filled m c n d⌝ ∗ owns (c : Thread nD τ) scM0 fullShare d) ∗ owns (c : Thread nD τ) scM1 fullShare (acc m c n)) ∗ (∃ r, prngReg c r))

/-- The invariant between points. -/
def inv (c : Dev nD) : ℕ → sProp 𝕄
  | 0 => Pipeline.ΦA spec0 c
  | n + 1 => after m c (n + 1)

theorem inv_zero (c : Dev nD) (n : ℕ) (h : n = 0) : inv m c n = Pipeline.ΦA spec0 c := by subst h; rfl
theorem inv_pos (c : Dev nD) (n : ℕ) (h : n ≠ 0) : inv m c n = after m c n := by
  cases n with
  | zero => exact absurd rfl h
  | succ n => rfl

/-- The proof data of the launch: the arrays as the region finds them, the inputs' buffers at their blocks, the output's
    at the value the last point stores, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => total m c
  Φ t := inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = fun _ => total m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- Each window's current staging memref at a point. -/
abbrev mem0 (t : Fin cfg0.N) : Memref sig .tc .vmem S1x8x2048x256 .f32 := win0_0.stage (cfg0.slots t 0)
abbrev mem1 (t : Fin cfg0.N) : Memref sig .tc .vmem S1x8x2048 .i32 := win0_1.stage (cfg0.slots t 1)
abbrev mem2 (t : Fin cfg0.N) : Memref sig .tc .smem S1x1 .f32 := win0_2.stage (cfg0.slots t 2)

/-- The coordinate of a point is its number. -/
theorem coord_val (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-- What the body owes for the output window: its buffer as found, except at the last point, the total. -/
def outPost (c : Dev nD) (t : Fin cfg0.N) : sProp 𝕄 :=
  if t.val = 15 then owns (c : Thread nD τ) (mem2 t) fullShare (fun _ => total m c)
  else iprop(∃ d, owns (c : Thread nD τ) (mem2 t) fullShare ((dats m 0 c).before 2 t d))

/-- What the body is called with at a point. -/
def bodyPre (c : Dev nD) (t : Fin cfg0.N) : sProp 𝕄 :=
  iprop(inv m c t.val ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d)))

/-- What it returns. -/
def bodyPost (c : Dev nD) (t : Fin cfg0.N) : sProp 𝕄 :=
  iprop(after m c (t.val + 1) ∗ (dats m 0 c).owesAt () t.castSucc
    ∗ owns (c : Thread nD τ) (mem0 t) fullShare (iblk m c 0 t)
    ∗ owns (c : Thread nD τ) (mem1 t) fullShare (iblk m c 1 t)
    ∗ outPost m c t)

set_option maxHeartbeats 1600000 in
/-- The body at any point takes the invariant to the next one. -/
theorem body_sound (c : Dev nD) (t : Fin cfg0.N) :
    bodyPre m c t ⊢ wp frame (wpE (defs₀ (F := F)) Variants.none c none) Set.univ (bodyAt0 t) (fun _ => bodyPost m c t) := by
  have ht : t.val < 16 := Nat.lt_of_lt_of_eq t.isLt N_0
  unfold bodyPre bodyPost bodyAt0 after
  simp only [before_0, before_1]
  rw [acc_next]
  by_cases h0 : t.val = 0
  · rw [inv_zero m c _ h0, scratch_any]
    unfold outPost; rw [if_neg (by omega)]
    iintro ⟨⟨⟨⟨%s, HS0⟩, HS1⟩, Hg⟩, Ho, ⟨%d0, H0⟩, ⟨%d1, H1⟩, H2⟩
    iapply (runFirst c (grid0.coords t) _ _ _ _ _ _ _ _ _ _ ((isFirst_iff t).mpr h0) (fun h => by have := (isLast_iff t).mp h; omega) (iblk m c 0 t) (iblk m c 1 t) s Set.univ _)
    isplitl [H0]; · iexact H0
    isplitl [H1]; · iexact H1
    isplitl [HS0]; · iexact HS0
    isplitl [HS1]; · iexact HS1
    iintro ⟨H0, H1, HS0, HS1⟩
    isplitl [HS0 HS1 Hg]
    · isplitl [HS0 HS1]
      · isplitl [HS0]
        · iexists _; isplitr
          swap; · iexact HS0
          ipureintro
          rw [coord_val]
          exact Filled.next m t (fun y hy => absurd hy (by omega))
        have e : acc m c t.val = k0_pay1 := by rw [h0]; rfl
        rw [e]; iexact HS1
      iexact Hg
    isplitl [Ho]; · iexact Ho
    isplitl [H0]; · iexact H0
    isplitl [H1]; · iexact H1
    iexact H2
  · rw [inv_pos m c _ h0]
    unfold after
    by_cases h1 : t.val = 15
    · unfold outPost; rw [if_pos h1]
      iintro ⟨⟨⟨⟨%s, %hs, HS0⟩, HS1⟩, Hg⟩, Ho, ⟨%d0, H0⟩, ⟨%d1, H1⟩, ⟨%d2, H2⟩⟩
      iapply (runLast c (grid0.coords t) _ _ _ _ _ _ _ _ _ _ (fun h => h0 ((isFirst_iff t).mp h)) ((isLast_iff t).mpr h1) (iblk m c 0 t) (iblk m c 1 t) s (acc m c t.val) Set.univ _)
      isplitl [H0]; · iexact H0
      isplitl [H1]; · iexact H1
      isplitl [H2]; · iexists _; iexact H2
      isplitl [HS0]; · iexact HS0
      isplitl [HS1]; · iexact HS1
      have hfill : Filled m c (t.val + 1) (setSlice s (grid0.coords t 0).val (k0_pay3 (iblk m c 0 t))) := by
        rw [coord_val]; exact Filled.next m t hs
      have hall : setSlice s (grid0.coords t 0).val (k0_pay3 (iblk m c 0 t)) = allSums m c := Filled.all m (by rw [h1] at hfill; exact hfill)
      have hacc : k0_pay4 (iblk m c 0 t) (iblk m c 1 t) (acc m c t.val) = acc m c 16 := by
        rw [← acc_next, h1]
      iintro ⟨H0, H1, H2, HS0, HS1⟩
      isplitl [HS0 HS1 Hg]
      · isplitl [HS0 HS1]
        · isplitl [HS0]
          · iexists _; isplitr
            swap; · iexact HS0
            ipureintro; exact hfill
          iexact HS1
        iexact Hg
      isplitl [Ho]; · iexact Ho
      isplitl [H0]; · iexact H0
      isplitl [H1]; · iexact H1
      unfold total
      rw [← hall, ← hacc]
      iexact H2
    · unfold outPost; rw [if_neg h1]
      iintro ⟨⟨⟨⟨%s, %hs, HS0⟩, HS1⟩, Hg⟩, Ho, ⟨%d0, H0⟩, ⟨%d1, H1⟩, H2⟩
      iapply (runMiddle c (grid0.coords t) _ _ _ _ _ _ _ _ _ _ (fun h => h0 ((isFirst_iff t).mp h)) (fun h => h1 ((isLast_iff t).mp h)) (iblk m c 0 t) (iblk m c 1 t) s (acc m c t.val) Set.univ _)
      isplitl [H0]; · iexact H0
      isplitl [H1]; · iexact H1
      isplitl [HS0]; · iexact HS0
      isplitl [HS1]; · iexact HS1
      iintro ⟨H0, H1, HS0, HS1⟩
      isplitl [HS0 HS1 Hg]
      · isplitl [HS0 HS1]
        · isplitl [HS0]
          · iexists _; isplitr
            swap; · iexact HS0
            ipureintro; rw [coord_val]; exact Filled.next m t hs
          iexact HS1
        iexact Hg
      isplitl [Ho]; · iexact Ho
      isplitl [H0]; · iexact H0
      isplitl [H1]; · iexact H1
      iexact H2

/-- The body table's row at a point is the body there. -/
theorem row (t : Fin cfg0.N) : defs₀ (F := F) .tc cfg0.body (cfg0.bodyArgs t (cfg0.slots t)) = bodyAt0 t := by
  unfold defs₀; rw [Defs.onTc_tc]

theorem live_0 : ∀ t : Fin cfg0.N, cfg0.idle 0 (grid0.coords t) = false := fun _ => rfl
theorem live_1 : ∀ t : Fin cfg0.N, cfg0.idle 1 (grid0.coords t) = false := fun _ => rfl

/-- The output window's part of the postcondition, as the obligation spells it. -/
theorem outPost_leaves (c : Dev nD) (t : Fin cfg0.N) : outPost m c t ⊢ (dats m 0 c).leavesExact 2 t := by
  have ht : t.val < 16 := Nat.lt_of_lt_of_eq t.isLt N_0
  unfold outPost Dat.leavesExact
  by_cases h : t.val = 15
  · have hi : cfg0.idle 2 (cfg0.grid.coords t) = false := by
      show (!(k0_cond2 (grid0.coords t) == 1#1)) = false
      rw [show k0_cond2 (grid0.coords t) = 1#1 from (isLast_iff t).mpr h]; rfl
    rw [if_pos h, hi, after_2]
    exact .rfl
  · have hi : cfg0.idle 2 (cfg0.grid.coords t) = true := by
      show (!(k0_cond2 (grid0.coords t) == 1#1)) = true
      have : ¬ (k0_cond2 (grid0.coords t) = 1#1) := fun e => h ((isLast_iff t).mp e)
      simp [this]
    have hf : (cfg0.win 2).flush t = false := by
      rw [Bool.eq_false_iff]; intro e; have := (flush0_2 t).mp e; omega
    rw [if_neg h, hi, hf]

/-- The library's body obligation. -/
theorem body_obligation (c : Dev nD) : BodyObligation (dats (F := F) m 0 c) (defs₀ (F := F)) Variants.none () Set.univ := fun t => by
  rw [bigSep_W0, bigSep_W0, row]
  refine triple_restated (body_sound m c t) rfl .rfl fun _ => ?_
  unfold bodyPost
  rw [show (dats m 0 c).Φ t.succ = after m c (t.val + 1) from rfl]
  iintro ⟨HI, Ho, H0, H1, H2⟩
  isplitl [HI]; · iexact HI
  isplitl [Ho]; · iexact Ho
  isplitl [H0]; · iexact H0
  isplitl [H1]; · iexact H1
  iapply (outPost_leaves m c t)
  iexact H2

theorem enter (c : Dev nD) : Pipeline.ΦA spec0 c ⊢ (dats m 0 c).Φ 0 := Idealize.SL.BI.Entails.refl _

theorem leave (c : Dev nD) : (dats m 0 c).Φ (Fin.last cfg0.N) ⊢ Pipeline.ΦA spec0 c := by
  rw [show (dats m 0 c).Φ (Fin.last cfg0.N) = inv m c cfg0.N from rfl, inv_pos m c _ (by rw [show cfg0.N = 16 from N_0]; decide), scratch_any]
  unfold after
  iintro ⟨⟨⟨%s, %hs, HS0⟩, HS1⟩, Hg⟩
  isplitl [HS0 HS1]
  · isplitl [HS0]
    · iexists _; iexact HS0
    iexists _; iexact HS1
  iexact Hg

set_option backward.isDefEq.respectTransparency.types false in
set_option maxHeartbeats 800000 in
/-- Every run ends with each array the launch stages at what its proof data name, every other array as the host lines
    after it leave it, and every semaphore counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

end Cert.KernelIdeal.Hand

end
-- ==== Proof.Result.lean ====
/- The program's result read off the run: the total the last point stored, divided by the number of rows. -/
module

public import proofs.«01_k».proof.Proof.Run
public import Idealize.ShloMosaic.Lib.Pipeline.Value

@[expose] public section

set_option maxRecDepth 16384

noncomputable section

namespace Cert.KernelIdeal.Hand

open Idealize.ShloMosaic Idealize.ShloMosaic.TcCoe Idealize.ShloMosaic.StableHlo
open Idealize.SL Idealize.SL.Sem
open Idealize.ShloMosaic.Rounds
open Idealize.ShloMosaic.Pipeline (Dat)
open Cert.KernelIdeal.Gen

variable {F : FTy → Type} [FloatOps F]

variable (m : (ℓ : Loc nD τ sig) → Buf (Elt F) ℓ) (ρ : Dev nD → PrngReg)

/-- The output array ends at the total: its one block is written back once, after the last point. -/
theorem final_total (c : Dev nD) : (dats m 0 c).arrAt 2 cfg0.N = fun _ => total m c := by
  refine (dats m 0 c).arrAt_eq_of_cover 2 (fun _ => total m c) ?_ ?_
  · intro t _
    unfold Dat.flushed
    rw [after_2]
    rfl
  · intro i
    refine ⟨⟨15, by rw [show cfg0.N = 16 from N_0]; decide⟩, (flush0_2 _).mpr rfl, ?_⟩
    rw [show ((cfg0.win 2).arr.view.slice ((cfg0.win 2).rect ⟨15, by decide⟩)).set = ((View.whole main_v2).slice (win0_2.rect ⟨15, by decide⟩)).set from rfl,
      View.set_slice_whole, Rect.mem_set_unit]
    intro a
    have hi : (i a).val = 0 := by
      have h : (i a).val < S1x1.size a := (i a).isLt
      have hs : S1x1.size a = 1 := by fin_cases a <;> rfl
      omega
    fin_cases a
    all_goals
      rw [hi]
      constructor <;> decide

/-- The program's result: the total over the number of rows. -/
def answer (c : Dev nD) : Vec F S_ .f32 := Host.divf (fun _ => total m c) (constant S_ .f32 0x48800000#32)

theorem tail_value (c : Dev nD) :
    Pipeline.afterTail₀ cfgs (dats m) 0 (V0 m) [hostOps1] c main_v4 = answer m c := by
  unfold Pipeline.afterTail₀
  have e2 : Pipeline.withArrays (cfgs 0).spec c (V0 m c) (fun w => (dats m 0 c).arrAt w (cfgs 0).N) (Proc.devRef .tc main_v2)
      = fun _ => total m c :=
    (Pipeline.withArrays_arr spec0 (by decide) c (V0 m c) (fun w => (dats m 0 c).arrAt w (cfgs 0).N) 2).trans (final_total m c)
  rw [show List.flatten [hostOps1 (F := F)] = hostOps1 from rfl]
  unfold hostOps1
  after_results
  rw [e2]
  rfl

/-- Every run ends with the result at the answer, the arguments as launched and every semaphore counter at zero. -/
theorem run_answer : θ_run defs (onTc (τ := τ) (main (F := F))) ⟨m, fun _ => 0, ρ⟩ (fun r =>
    (∀ c : Dev nD, r.2.mem ((c.tc : Thread nD τ).loc main_v4) = answer m c)
    ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ((h.1 c).2 main_v4 (Pipeline.mem_restRefs_of main_v4 (by decide) (by decide))).trans (tail_value m c),
    fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩, h.2⟩) (run_main m ρ)

/-- The kernel's first operand at the launch is the first argument, its rows in blocks. -/
theorem V_v0 (c : Dev nD) : V m c main_v0 = shapeCast S16x8x2048x256 (m ((c : Thread nD τ).loc main_arg0)) shapeCasts_S262144x256_S16x8x2048x256 := by
  unfold V V0
  rw [show List.flatten [hostOps0 (F := F)] = hostOps0 from rfl]
  unfold hostOps0
  after_results
  rfl

/-- The kernel's second operand at the launch is the second argument, in blocks. -/
theorem V_v1 (c : Dev nD) : V m c main_v1 = shapeCast S16x8x2048 (m ((c : Thread nD τ).loc main_arg1)) shapeCasts_S262144_S16x8x2048 := by
  unfold V V0
  rw [show List.flatten [hostOps0 (F := F)] = hostOps0 from rfl]
  unfold hostOps0
  after_results
  rfl

end Cert.KernelIdeal.Hand

end
-- ==== Proof.Value.lean ====
/- The kernel's answer over the extended reals, when the logits are real and the targets name classes: the sum of the rows'
   losses over the number of rows. -/
module

public import proofs.«01_k».proof.Proof.Payloads
public import proofs.«01_k».proof.Proof.Result

@[expose] public section

set_option maxRecDepth 16384

noncomputable section

namespace Cert.KernelIdeal.Hand

open Idealize.ShloMosaic Idealize.ShloMosaic.TcCoe Idealize.ShloMosaic.ValueIdx
open Cert.KernelIdeal.Gen

variable (m : (ℓ : Loc nD τ sig) → Buf (Elt Ideal) ℓ) (c : Dev nD)

/-- The row of the logits that a position of the blocked array stands for. -/
def rowOf : S16x8x2048.Idx ≃ S262144.Idx := Shape.reshapeEquiv shapeCasts_S262144_S16x8x2048

theorem rowOf_val (y : S16x8x2048.Idx) : (rowOf y 0).val = ((y 0).val * 8 + (y 1).val) * 2048 + (y 2).val := by
  have h := Shape.rowMajor_reshapeEquiv shapeCasts_S262144_S16x8x2048 y
  rw [Shape.rowMajor_val_one, Shape.rowMajor_val_three] at h
  exact h

/-- The block of the first operand at point `t` is its slice number `t`, at offset zero on the other axes. -/
theorem index_0 : ∀ t : Fin grid0.N, win0_0.index t 0 = t.val ∧ win0_0.index t 1 = 0 ∧ win0_0.index t 2 = 0 ∧ win0_0.index t 3 = 0 := by
  decide

/-- Likewise the block of the second operand. -/
theorem index_1 : ∀ t : Fin grid0.N, win0_1.index t 0 = t.val ∧ win0_1.index t 1 = 0 ∧ win0_1.index t 2 = 0 := by
  decide

/-- A block of the first operand, in terms of the first argument. -/
theorem logits_apply (t : Fin cfg0.N) (y : S16x8x2048.Idx) (ht : (y 0).val = t.val) (k : Fin 256) :
    iblk m c 0 t (ix4 0 (y 1) (y 2) k) = m ((c.tc : Thread nD τ).loc main_arg0) (ix2 (rowOf y 0) k) := by
  have e : iblk m c 0 t (ix4 0 (y 1) (y 2) k) = V m c main_v0 (ix4 (y 0) (y 1) (y 2) k) := by
    refine congrArg (V m c main_v0) (show (win0_0.rect t).emb (ix4 0 (y 1) (y 2) k) = ix4 (y 0) (y 1) (y 2) k from ?_)
    obtain ⟨h0, h1, h2, h3⟩ := index_0 t
    funext d
    refine Fin.ext ?_
    match d with
    | ⟨0, _⟩ =>
      refine (win0_0.rect_emb_val t _ 0).trans ?_
      rw [h0]
      show t.val * 1 + 0 = (y 0).val
      omega
    | ⟨1, _⟩ => exact win0_0.rect_emb_val_of_index_zero t 1 h1 _
    | ⟨2, _⟩ => exact win0_0.rect_emb_val_of_index_zero t 2 h2 _
    | ⟨3, _⟩ => exact win0_0.rect_emb_val_of_index_zero t 3 h3 _
  rw [e, V_v0]
  refine shapeCast_apply _ _ _ (ix2 (rowOf y 0) k) ?_
  rw [Shape.rowMajor_val_two, Shape.rowMajor_val_four, show ((ix2 (rowOf y 0) k : S262144x256.Idx) 0).val = _ from rowOf_val y]
  rfl

/-- A block of the second operand, in terms of the second argument. -/
theorem target_apply (t : Fin cfg0.N) (y : S16x8x2048.Idx) (ht : (y 0).val = t.val) :
    iblk m c 1 t (ix3 0 (y 1) (y 2)) = m ((c.tc : Thread nD τ).loc main_arg1) (rowOf y) := by
  have e : iblk m c 1 t (ix3 0 (y 1) (y 2)) = V m c main_v1 y := by
    refine congrArg (V m c main_v1) (show (win0_1.rect t).emb (ix3 0 (y 1) (y 2)) = y from ?_)
    obtain ⟨h0, h1, h2⟩ := index_1 t
    funext d
    refine Fin.ext ?_
    match d with
    | ⟨0, _⟩ =>
      refine (win0_1.rect_emb_val t _ 0).trans ?_
      rw [h0]
      show t.val * 1 + 0 = (y 0).val
      omega
    | ⟨1, _⟩ => exact win0_1.rect_emb_val_of_index_zero t 1 h1 _
    | ⟨2, _⟩ => exact win0_1.rect_emb_val_of_index_zero t 2 h2 _
  rw [e, V_v1]
  rfl

variable (xr : S262144.Idx → Fin 256 → ℝ) (tg : S262144.Idx → Fin 256)

section

variable (hx : ∀ j k, m ((c.tc : Thread nD τ).loc main_arg0) (ix2 (j 0) k) = ((xr j k : ℝ) : EReal))
variable (hg : ∀ j, m ((c.tc : Thread nD τ).loc main_arg1) j = BitVec.ofNat 32 (tg j).val)

include hx in
/-- Each row sum the kernel keeps is the row's sum of exponentials. -/
theorem allSums_apply (y : S16x8x2048.Idx) : allSums m c y = ((∑ k, Real.exp (xr (rowOf y) k) : ℝ) : EReal) := by
  have hy : inSlice y = ix3 0 (y 1) (y 2) := by
    funext d
    match d with
    | ⟨0, _⟩ => rfl
    | ⟨1, _⟩ => rfl
    | ⟨2, _⟩ => rfl
  unfold allSums
  rw [hy]
  refine (pay3_apply _ (y 1) (y 2)).trans ?_
  rw [← Loss.sum_real]
  refine Finset.sum_congr rfl fun k _ => ?_
  rw [logits_apply m c (ptOf y) y rfl k, hx]
  rfl

/-- The words of two class numbers are equal just when the numbers are. -/
theorem class_word_inj (k k' : Fin 256) : BitVec.ofNat 32 k.val = BitVec.ofNat 32 k'.val ↔ k' = k := by
  constructor
  · intro h
    have e := congrArg BitVec.toNat h
    rw [BitVec.toNat_ofNat, BitVec.toNat_ofNat] at e
    have := k.isLt
    have := k'.isLt
    exact Fin.ext (by omega)
  · rintro rfl
    rfl

/-- What block `i` adds to the accumulator's entry at sublane `a` and class `k`. -/
def added (i : ℕ) (a : Fin 8) (k : Fin 256) : ℝ :=
  if h : i < 16 then ∑ b : Fin 2048, if tg (rowOf (ix3 ⟨i, h⟩ a b)) = k then xr (rowOf (ix3 ⟨i, h⟩ a b)) k else 0 else 0

include hx hg in
/-- The accumulator after `n` points is the sum of what the first `n` blocks add. -/
theorem acc_apply (n : ℕ) (hn : n ≤ 16) (a : Fin 8) (k : Fin 256) :
    acc m c n (ix2 a k) = ((∑ i ∈ Finset.range n, added xr tg i a k : ℝ) : EReal) := by
  induction n with
  | zero => exact (pay1_apply _).trans (by simp)
  | succ n ih =>
    have hlt : n < cfg0.N := by rw [show cfg0.N = 16 from N_0]; omega
    have e := acc_next m c ⟨n, hlt⟩
    rw [show acc m c (n + 1) = _ from e]
    refine (pay4_apply _ _ _ a k).trans ?_
    rw [ih (by omega), Finset.sum_range_succ, EReal.coe_add]
    refine congrArg (((∑ i ∈ Finset.range n, added xr tg i a k : ℝ) : EReal) + ·) ?_
    unfold added
    rw [dif_pos (show n < 16 by omega), ← Loss.sum_real]
    refine Finset.sum_congr rfl fun b _ => ?_
    have h1 := logits_apply m c ⟨n, hlt⟩ (ix3 ⟨n, by omega⟩ a b) rfl k
    have h2 := target_apply m c ⟨n, hlt⟩ (ix3 ⟨n, by omega⟩ a b) rfl
    rw [hx] at h1
    rw [hg] at h2
    rw [show iblk m c 1 ⟨n, hlt⟩ (ix3 0 a b) = _ from h2, show iblk m c 0 ⟨n, hlt⟩ (ix4 0 a b k) = _ from h1]
    by_cases h : tg (rowOf (ix3 ⟨n, by omega⟩ a b)) = k
    · rw [if_pos h, if_pos ((class_word_inj _ _).mpr h)]
    · rw [if_neg h, if_neg (fun e => h ((class_word_inj _ _).mp e)), EReal.coe_zero]

/-- The positions of a rank-3 array, by coordinates. -/
def idxEquiv3 {n0 n1 n2 : ℕ} : (⟨3, ![n0, n1, n2]⟩ : Shape).Idx ≃ Fin n0 × Fin n1 × Fin n2 where
  toFun y := (y 0, y 1, y 2)
  invFun p := ix3 p.1 p.2.1 p.2.2
  left_inv y := (eq_ix3 y).symm
  right_inv _ := rfl

/-- A sum over the positions of a rank-3 array is a triple sum. -/
theorem sum_idx3 {n0 n1 n2 : ℕ} (f : (⟨3, ![n0, n1, n2]⟩ : Shape).Idx → ℝ) : ∑ y, f y = ∑ i, ∑ a, ∑ b, f (ix3 i a b) := by
  rw [← Equiv.sum_comp idxEquiv3.symm f, Fintype.sum_prod_type]
  exact Finset.sum_congr rfl fun i _ => Fintype.sum_prod_type _

/-- Over all the blocks, sublanes and classes, the entries the blocks add are the rows' target logits, each once. -/
theorem sum_added : ∑ a, ∑ k, ∑ i ∈ Finset.range 16, added xr tg i a k = ∑ j, xr j (tg j) := by
  have h1 : ∀ a k, ∑ i ∈ Finset.range 16, added xr tg i a k
      = ∑ i : Fin 16, ∑ b : Fin 2048, if tg (rowOf (ix3 i a b)) = k then xr (rowOf (ix3 i a b)) k else 0 := fun a k => by
    rw [Finset.sum_range]
    refine Finset.sum_congr rfl fun i _ => ?_
    unfold added
    rw [dif_pos i.isLt]
  have h2 : ∑ j, xr j (tg j) = ∑ y : S16x8x2048.Idx, xr (rowOf y) (tg (rowOf y)) := (Equiv.sum_comp rowOf fun j => xr j (tg j)).symm
  have h3 : ∀ r : S262144.Idx, ∑ k : Fin 256, (if tg r = k then xr r k else 0) = xr r (tg r) := fun r =>
    (Finset.sum_ite_eq Finset.univ (tg r) fun k => xr r k).trans (if_pos (Finset.mem_univ _))
  have h4 : ∀ a : Fin 8, ∑ k, ∑ i ∈ Finset.range 16, added xr tg i a k
      = ∑ i : Fin 16, ∑ b : Fin 2048, xr (rowOf (ix3 i a b)) (tg (rowOf (ix3 i a b))) := fun a => by
    refine (Finset.sum_congr rfl fun k _ => h1 a k).trans (Finset.sum_comm.trans (Finset.sum_congr rfl fun i _ => ?_))
    exact Finset.sum_comm.trans (Finset.sum_congr rfl fun b _ => h3 _)
  refine (Finset.sum_congr rfl fun a _ => h4 a).trans (Finset.sum_comm.trans ?_)
  exact (h2.trans (sum_idx3 _)).symm

include hx hg in
/-- The kernel's total is the sum of the rows' losses. -/
theorem total_apply : total m c = ((∑ j, Loss.nll (xr j) (tg j) : ℝ) : EReal) := by
  unfold total
  refine (pay5_apply _ _).trans ?_
  have h1 : ∑ y : S16x8x2048.Idx, Ideal.log (allSums m c y) = ((∑ j, Loss.logSumExp (xr j) : ℝ) : EReal) := by
    rw [← Equiv.sum_comp rowOf fun j => Loss.logSumExp (xr j), ← Loss.sum_real]
    refine Finset.sum_congr rfl fun y _ => ?_
    rw [allSums_apply m c xr hx y, Loss.log_real (Loss.sum_exp_pos _)]
    rfl
  have h2 : ∑ z : S8x256.Idx, acc m c 16 z = ((∑ j, xr j (tg j) : ℝ) : EReal) := by
    rw [sum_idx2, ← sum_added xr tg, ← Loss.sum_real]
    refine Finset.sum_congr rfl fun a _ => ?_
    rw [← Loss.sum_real]
    exact Finset.sum_congr rfl fun k _ => acc_apply m c xr tg hx hg 16 le_rfl a k
  rw [h1, h2, ← EReal.coe_sub, ← Finset.sum_sub_distrib]
  rfl

include hx hg in
/-- The kernel's answer: the sum of the rows' losses over the number of rows. -/
theorem answer_apply (i : S_.Idx) :
    answer m c i = Ideal.div ((∑ j, Loss.nll (xr j) (tg j) : ℝ) : EReal) (Ideal.ofBits .f32 0x48800000#32) := by
  have h := total_apply m c xr tg hx hg
  show Ideal.div (total m c) (Ideal.ofBits .f32 0x48800000#32) = _
  rw [h]

end

end Cert.KernelIdeal.Hand

end
-- ==== Proof.Reference.lean ====
/- What the reference computes: the mean over the rows of the negative log-likelihood of the row's target class. -/
module

public import proofs.«01_k».proof.Proof.Loss
public import proofs.«01_k».proof.Proof.Gen.ReferenceIdeal
public import proofs.«01_k».proof.Proof.Gen.ReferenceIdeal.Run
public import proofs.«01_k».proof.Proof.Gen.ReferenceIdeal.Read
public import Idealize.ShloMosaic.Lib.ReduceAll
public import Idealize.ShloMosaic.Lib.Affine
public import Idealize.ShloMosaic.Lib.ValueIdx

@[expose] public section

set_option maxRecDepth 16384

noncomputable section

namespace Cert.ReferenceIdeal.Hand

open Idealize.ShloMosaic Idealize.ShloMosaic.ValueIdx
open Cert.ReferenceIdeal.Gen Cert.ReferenceIdeal.Read

/-- Entry `k` of row `j` of the logits, as an index of the table. -/
abbrev cell (j : S262144.Idx) (k : Fin 256) : S262144x256.Idx := ix2 (j 0) k

/-- The one entry of row `j` of a one-column table. -/
abbrev col (j : S262144.Idx) : S262144x1.Idx := ix2 (j 0) 0

/-- Row numbers are equal when their one coordinate is. -/
theorem row_ext {i j : S262144.Idx} (h : (i 0).val = (j 0).val) : i = j := by
  funext a; match a with | ⟨0, _⟩ => exact Fin.ext h

/-- Indices of the logits are equal when both coordinates are. -/
theorem cell_ext {i j : S262144x256.Idx} (h : (i 0).val = (j 0).val) (h' : (i 1).val = (j 1).val) : i = j := by
  funext a; match a with | ⟨0, _⟩ => exact Fin.ext h | ⟨1, _⟩ => exact Fin.ext h'

section Gather

variable {α : Type}

/-- The gather along the classes reads, in row `j`, the entry the row's index names, clamped into the row. -/
theorem gather_row (x : S262144x256.Idx → α) (idx : IVec S262144x1x1 32) (j : S262144.Idx) :
    Host.gather gather_S262144x256_S262144x1x1_S262144x1_n_1_0_0_1_2_11 x idx (col j)
      = x (cell j ⟨min (idx (ix3 (j 0) 0 0)).toInt.toNat 255, by omega⟩) := by
  unfold Host.gather
  refine congrArg x (cell_ext ?_ ?_)
  · show GatherDims.start _ _ _ 0 + GatherDims.batchCoord _ _ 0 + GatherDims.offCoord _ _ 0 = (j 0).val
    rw [GatherDims.start_batching _ _ _ _ (by decide), GatherDims.offCoord_eq_zero _ _ _ (by decide)]
    unfold GatherDims.batchCoord
    rw [dif_pos (by decide)]
    unfold GatherDims.siCoord
    rw [zero_add, add_zero]
    rfl
  · show GatherDims.start _ _ _ 1 + GatherDims.batchCoord _ _ 1 + GatherDims.offCoord _ _ 1 = min (idx (ix3 (j 0) 0 0)).toInt.toNat 255
    rw [GatherDims.batchCoord_eq_zero _ _ _ (by decide), GatherDims.offCoord_eq_zero _ _ _ (by decide)]
    unfold GatherDims.start
    rw [dif_pos (by decide)]
    show min (idx _).toInt.toNat 255 = _
    refine congrArg (fun i => min (idx i).toInt.toNat 255) (funext fun b => Fin.ext ?_)
    match b with
    | ⟨0, _⟩ => unfold GatherDims.siIdx; split; (· next h => exact absurd (show (0 : ℕ) = 2 from h) (by decide)); unfold GatherDims.siCoord; rfl
    | ⟨1, _⟩ => unfold GatherDims.siIdx; split; (· next h => exact absurd (show (1 : ℕ) = 2 from h) (by decide)); unfold GatherDims.siCoord; rfl
    | ⟨2, _⟩ => unfold GatherDims.siIdx; split; rfl; next h => exact absurd (show (2 : ℕ) = 2 from rfl) h

end Gather

variable (x0 : (⟨S262144x256, .f32⟩ : BufTy).Contents (Elt Ideal)) (x1 : (⟨S262144, .i32⟩ : BufTy).Contents (Elt Ideal))
variable (xr : S262144.Idx → Fin 256 → ℝ) (t : S262144.Idx → Fin 256)

/-- The row maximum the reference subtracts is a real number. -/
theorem max_real (hx : ∀ j k, x0 (cell j k) = ((xr j k : ℝ) : EReal)) (j : S262144.Idx) :
    ∃ M : ℝ, val_main_call0_v2 (F := Ideal) x0 j = (M : EReal) := by
  obtain ⟨M, hM⟩ := Loss.fold_max_real (xr j)
  refine ⟨M, ?_⟩
  have hb : (FloatOps.ofBits .f32 0xFF800000#32 : Ideal .f32) = (⊥ : EReal) := by
    show Ideal.ofBits .f32 0xFF800000#32 = ⊥
    simp [Ideal.ofBits, Ideal.ieee]
  have hr : S262144x256.Reduces [1] S262144 := by decide
  rw [val_main_call0_v2_apply, val_main_call0_v1_apply, val_main_call0_cst_0_apply]
  unfold val_main_call0_v0
  rw [Host.reduce_eq_fold_single (a := 1) _ _ _ _ hr, val_main_call0_cst_apply, hb, ← hM]
  have hf : (x0 ∘ hr.lift j) = fun k => ((xr j k : ℝ) : EReal) := by
    funext k
    show x0 (hr.lift j k) = _
    rw [show hr.lift j k = cell j k from cell_ext rfl rfl]
    exact hx j k
  rw [hf]
  exact bot_sup_eq _

/-- Entry `k` of row `j` of the log-softmax is minus the negative log-likelihood of class `k`. -/
theorem logp_apply (hx : ∀ j k, x0 (cell j k) = ((xr j k : ℝ) : EReal)) (j : S262144.Idx) (k : Fin 256) :
    val_main_v0 (F := Ideal) x0 (cell j k) = ((-Loss.nll (xr j) k : ℝ) : EReal) := by
  obtain ⟨M, hM⟩ := max_real x0 xr hx j
  have h5 : ∀ k, val_main_call0_v5 (F := Ideal) x0 (cell j k) = ((xr j k - M : ℝ) : EReal) := fun k => by
    rw [val_main_call0_v5_apply, val_main_call0_v4_apply, val_main_call0_v3_apply, hx,
      show idx_main_call0_v3 (idx_main_call0_v4 (cell j k)) = j from row_ext rfl, hM, EReal.coe_sub]
    rfl
  have h7 : val_main_call0_v7 (F := Ideal) x0 j = ((∑ k, Real.exp (xr j k - M) : ℝ) : EReal) := by
    rw [val_main_call0_v7_apply, val_main_call0_cst_1_apply, Ideal.ofBits_def, Ideal.ofBits_zero_f32, zero_add, ← Loss.sum_real]
    refine Finset.sum_congr rfl fun k _ => ?_
    rw [show idx_main_call0_v7 j k = cell j k from cell_ext rfl rfl, val_main_call0_v6_apply, h5]
    rfl
  have h9 : val_main_call0_v10 (F := Ideal) x0 (cell j k) = FloatOps.hostUnary (F := Ideal) (φ := .f32) .log (val_main_call0_v7 (F := Ideal) x0 j) := by
    rw [val_main_call0_v10_apply, val_main_call0_v9_apply, val_main_call0_v8_apply,
      show idx_main_call0_v8 (idx_main_call0_v10 (cell j k)) = j from row_ext rfl]
  rewrite [val_main_v0_apply, h9, h5, h7]
  rewrite [Ideal.hostUnary_log_def]
  rewrite [Loss.log_real (Loss.sum_exp_pos fun k => xr j k - M)]
  have hr : xr j k - M - (Loss.logSumExp (xr j) - M) = -Loss.nll (xr j) k := by
    unfold Loss.nll
    ring
  rewrite [Loss.logSumExp_sub, ← hr]
  exact (EReal.coe_sub _ _).symm

/-- The word of a class number, read signed, is the class number. -/
theorem class_toInt (k : Fin 256) : (BitVec.ofNat 32 k.val).toInt = (k.val : ℤ) := by
  have := k.isLt
  rw [BitVec.toInt_ofNat', Int.bmod_def]
  omega

/-- A target in range is read as itself: it is not negative, so nothing is added to it. -/
theorem index_apply (ht : ∀ j, x1 j = BitVec.ofNat 32 (t j).val) (j : S262144.Idx) (i : S262144x1x1.Idx) (hi : (i 0).val = (j 0).val) :
    val_main_call1_v5 (F := Ideal) x1 i = BitVec.ofNat 32 (t j).val := by
  have h1 : ∀ i' : S262144x1.Idx, (i' 0).val = (j 0).val → val_main_v1 (F := Ideal) x1 i' = BitVec.ofNat 32 (t j).val := fun i' h => by
    rw [val_main_v1_apply, show idx_main_v1 i' = j from row_ext h, ht]
  have hc : ((idx_main_call1_v5 i) 0).val = (j 0).val := by
    have h2 : (i 1).val < 1 := (i 1).isLt
    have h3 : (i 2).val < 1 := (i 2).isLt
    show (((i 0).val * 1 + (i 1).val) * 1 + (i 2).val) / 1 = _
    omega
  rw [val_main_call1_v5_apply, val_main_call1_v4_apply, val_main_call1_v1_apply, h1 _ hc, val_main_call1_v0_apply, val_main_call1_c_apply]
  have hlt : ¬ IntOp.cmpi .slt (BitVec.ofNat 32 (t j).val) 0#32 = 1#1 := by
    rw [IntOp.cmpi_slt, class_toInt]
    exact not_lt.mpr (Int.natCast_nonneg _)
  rw [eq_zero_of_ne_one hlt, select_zero]

/-- The check that the index lies in the row passes at every row. -/
theorem inRange_apply (ht : ∀ j, x1 j = BitVec.ofNat 32 (t j).val) (i : S262144x1.Idx) : val_main_call1_v12 (F := Ideal) x1 i = 1#1 := by
  unfold val_main_call1_v12
  refine Host.reduce_andi_one _ _ _ _ _ rfl fun i' => ?_
  have hj := index_apply x1 t ht (ix1 (i' 0)) i' rfl
  rw [val_main_call1_v11_apply, val_main_call1_v7_apply, val_main_call1_v10_apply, val_main_call1_v6_apply, val_main_call1_v9_apply,
    val_main_call1_v8_apply, val_main_call1_c_1_apply, val_main_call1_c_2_apply, hj]
  have h0 : IntOp.cmpi .sge (BitVec.ofNat 32 (t (ix1 (i' 0))).val) 0#32 = 1#1 := by
    rw [IntOp.cmpi_sge, class_toInt]
    exact Int.natCast_nonneg _
  have h1 : IntOp.cmpi .sle (BitVec.ofNat 32 (t (ix1 (i' 0))).val) 255#32 = 1#1 := by
    rw [IntOp.cmpi_sle, class_toInt, show (255#32 : BitVec 32).toInt = 255 by decide]
    have := (t (ix1 (i' 0))).isLt
    omega
  rw [h0, h1]
  rfl

/-- The negated gathered value of row `j` is the row's negative log-likelihood. -/
theorem loss_apply (hx : ∀ j k, x0 (cell j k) = ((xr j k : ℝ) : EReal)) (ht : ∀ j, x1 j = BitVec.ofNat 32 (t j).val) (j : S262144.Idx) :
    val_main_v4 (F := Ideal) x0 x1 j = ((Loss.nll (xr j) (t j) : ℝ) : EReal) := by
  rw [val_main_v4_apply, val_main_v3_apply, val_main_v2_apply, inRange_apply x1 t ht, select_one]
  have hc : idx_main_v3 j = col j := by
    funext a
    match a with
    | ⟨0, _⟩ => exact Fin.ext (Nat.div_one _)
    | ⟨1, _⟩ => rfl
  unfold val_main_call1_v13
  have hm : min (val_main_call1_v5 (F := Ideal) x1 (ix3 (j 0) 0 0)).toInt.toNat 255 = (t j).val := by
    have := (t j).isLt
    rw [index_apply x1 t ht j _ rfl, class_toInt]
    omega
  rewrite [hc, gather_row]
  rewrite [show cell j ⟨min (val_main_call1_v5 (F := Ideal) x1 (ix3 (j 0) 0 0)).toInt.toNat 255, by omega⟩ = cell j (t j) from cell_ext rfl hm,
    logp_apply x0 xr hx]
  show -(((-Loss.nll (xr j) (t j) : ℝ) : EReal)) = _
  rw [← EReal.coe_neg, neg_neg]

/-- The reference's result: the sum of the rows' losses over the number of rows. -/
theorem result_apply (hx : ∀ j k, x0 (cell j k) = ((xr j k : ℝ) : EReal)) (ht : ∀ j, x1 j = BitVec.ofNat 32 (t j).val) (i : S_.Idx) :
    val_main_v6 (F := Ideal) x0 x1 i
      = Ideal.div ((∑ j, Loss.nll (xr j) (t j) : ℝ) : EReal) (Ideal.ofBits .f32 0x48800000#32) := by
  have hs : val_main_v5 (F := Ideal) x0 x1 i = ((∑ j, Loss.nll (xr j) (t j) : ℝ) : EReal) := by
    rewrite [val_main_v5_apply, val_main_cst_apply, Ideal.ofBits_def, Ideal.ofBits_zero_f32, zero_add, ← Loss.sum_real]
    exact Finset.sum_congr rfl fun j _ => loss_apply x0 x1 xr t hx ht j
  rewrite [val_main_v6_apply, hs, val_main_cst_0_apply]
  rfl

end Cert.ReferenceIdeal.Hand

end
-- ==== Proof.Pre.lean ====
/- What the precondition says of the arguments: every logit is a real number, and every target names one of the 256 classes. -/
module

public import proofs.«01_k».proof.Proof.Gen.Pre_finite_and_in_range
public import proofs.«01_k».proof.Proof.Loss
public import Idealize.ShloMosaic.Lib.ReduceAll
public import Idealize.ShloMosaic.Lib.Affine
public import Idealize.ShloMosaic.Lib.ValueIdx

@[expose] public section

set_option maxRecDepth 16384

noncomputable section

namespace Cert.Pre_finite_and_in_range.Hand

open Idealize.ShloMosaic Idealize.ShloMosaic.ValueIdx
open Cert.Pre_finite_and_in_range Cert.Pre_finite_and_in_range.Gen

/-- A value whose magnitude is below plus infinity is a real number. -/
theorem real_of_abs_lt (a : EReal) (h : max a (-a) < ⊤) : ∃ r : ℝ, a = (r : EReal) := by
  have h1 : a ≠ ⊤ := fun e => by rw [e] at h; exact absurd h (by simp)
  have h2 : a ≠ ⊥ := fun e => by rw [e] at h; exact absurd h (by simp)
  exact ⟨_, (EReal.coe_toReal h1 h2).symm⟩

/-- A word that lies in the range of the class numbers, read signed, is the word of a class number. -/
theorem class_of_range (w : BitVec 32) (h0 : 0 ≤ w.toInt) (h1 : w.toInt < 256) : ∃ k : Fin 256, w = BitVec.ofNat 32 k.val := by
  have hn : (w.toNat : ℤ) = w.toInt := by
    rw [BitVec.toInt_eq_toNat_cond] at h0 h1 ⊢
    have := w.isLt
    split <;> split at h0 <;> omega
  refine ⟨⟨w.toNat, by omega⟩, ?_⟩
  exact BitVec.eq_of_toNat_eq (by rw [BitVec.toNat_ofNat, Nat.mod_eq_of_lt w.isLt])

variable (x0 : FVec Ideal S262144x256 .f32) (x1 : IVec S262144 32)

/-- The precondition, read out: each logit is a real number and each target is the word of a class number. -/
theorem pre_apply (h : fn (F := Ideal) x0 x1 = fun _ => 1#1) :
    (∀ i, ∃ r : ℝ, x0 i = (r : EReal)) ∧ ∀ j, ∃ k : Fin 256, x1 j = BitVec.ofNat 32 k.val := by
  have h0 := congrFun h ix0
  dsimp only [fn] at h0
  obtain ⟨ha, hb⟩ := IntOp.andi_eq_one.mp h0
  have hu : Subsingleton S_.Idx := ⟨fun a b => funext fun i => i.elim0⟩
  refine ⟨fun i => ?_, fun j => ?_⟩
  · have hi := Host.reduce_andi_all _ _ _ _ _ ha i
    refine real_of_abs_lt _ ?_
    have hc : Ideal.cmp .olt (max (x0 i) (-x0 i)) (Ideal.ofBits .f32 0x7F800000#32) = 1#1 := hi
    have hinf : Ideal.ofBits .f32 0x7F800000#32 = ⊤ := by simp [Ideal.ofBits, Ideal.ieee]
    rw [hinf] at hc
    have hd : BitVec.ofBool (decide (max (x0 i) (-x0 i) < ⊤)) = 1#1 := hc
    by_contra hn
    rw [decide_eq_false hn] at hd
    exact absurd hd (by decide)
  · have hj := Host.reduce_andi_all _ _ _ _ _ hb j
    obtain ⟨h1, h2⟩ := IntOp.andi_eq_one.mp hj
    refine class_of_range _ ?_ ?_
    · exact (IntOp.cmpi_sge).mp h1
    · exact (IntOp.cmpi_slt).mp h2

end Cert.Pre_finite_and_in_range.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_in_range
public import proofs.«01_k».proof.Proof.SameText
public import proofs.«01_k».proof.Proof.Value
public import proofs.«01_k».proof.Proof.Reference
public import proofs.«01_k».proof.Proof.Pre
public import Idealize.ShloMosaic.Adequacy
public import Idealize.ShloMosaic.Init

@[expose] public section

noncomputable section

namespace Cert.Proof

open Idealize.ShloMosaic Idealize.ShloMosaic.ValueIdx Idealize.SL.Sem

/-- Every run of the kernel over the extended reals, whatever its arguments hold, leaves the arguments as they were and
    every semaphore counter at zero. -/
theorem frame_kernelIdeal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => h.2) (Cert.KernelIdeal.Hand.run_answer m ρ)

set_option maxHeartbeats 1600000 in
/-- Every run of the kernel at bit patterns leaves its arguments as they were and every semaphore counter at zero. -/
theorem frame_kernel : Cert.quiescent_Kernel := by
  intro m ρ _
  rw [Cert.SameText.defs_eq]
  exact (θ_run Cert.KernelIdeal.defs _ _).mono (fun _ h => h.2) (Cert.KernelIdeal.Hand.run_answer (F := Bits) m ρ)

/-- Every run of the reference over the extended reals, whatever its arguments hold; it has no semaphore. -/
theorem frame_referenceIdeal (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, Idealize.ShloMosaic.sem_eq_zero_of_no_sems (by decide) r.2⟩) (Cert.ReferenceIdeal.Value.run m ρ)

/-- Where the logits are finite and the targets name classes, the kernel and the reference give the same mean loss. -/
theorem algebraic : Cert.algebraic_KernelIdeal_ReferenceIdeal_pre_finite_and_in_range := by
  intro m ρ m' ρ' hpre hargs
  refine ⟨fun c => Cert.KernelIdeal.Hand.answer m c,
    (θ_run Cert.KernelIdeal.defs _ _).mono (fun _ h c => ⟨h.1 c, h.2.1 c⟩) (Cert.KernelIdeal.Hand.run_answer m ρ),
    (θ_run Cert.ReferenceIdeal.defs _ _).mono (fun _ h c => ⟨(h c).1.trans ?_, (h c).2⟩) (Cert.ReferenceIdeal.Value.run m' ρ')⟩
  obtain ⟨hx, ht⟩ := Cert.Pre_finite_and_in_range.Hand.pre_apply _ _ (hpre c)
  choose xr hxr using hx
  choose tg htg using ht
  refine (Cert.ReferenceIdeal.Read.val_main_v6_eq _ _).trans (funext fun i => ?_)
  rw [(hargs c).1, (hargs c).2]
  exact (Cert.ReferenceIdeal.Hand.result_apply _ _ (fun j k => xr (ix2 (j 0) k)) tg (fun j k => hxr _) htg i).trans
    (Cert.KernelIdeal.Hand.answer_apply m c (fun j k => xr (ix2 (j 0) k)) tg (fun j k => hxr _) htg i).symm

/-- Everything the certificate claims. -/
theorem claim : Cert.Claim := ⟨Cert.Kernel.Gen.facts, Cert.KernelIdeal.Gen.facts, Cert.ReferenceIdeal.Gen.facts, Cert.Pre_finite_and_in_range.Gen.facts,
  frame_kernel, fun m ρ _ => frame_kernelIdeal m ρ, fun m ρ _ => frame_kernelIdeal m ρ, fun m ρ _ => frame_referenceIdeal m ρ,
  fun m ρ _ => frame_referenceIdeal m ρ, trivial, algebraic⟩

end Cert.Proof

end
